-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S8192x4096 : Shape := ⟨2, ![8192, 4096]⟩
abbrev S4096x64 : Shape := ⟨2, ![4096, 64]⟩
abbrev S8192x64 : Shape := ⟨2, ![8192, 64]⟩
abbrev S_ : Shape := ⟨0, ![]⟩

class Facts : Prop where
  bcast_S_S8192x4096 : S_.BroadcastsInDim S8192x4096 (![] : Fin 0 → Fin S8192x4096.rank)
  bcast_S_S4096x64 : S_.BroadcastsInDim S4096x64 (![] : Fin 0 → Fin S4096x64.rank)
  bcast_S_S8192x64 : S_.BroadcastsInDim S8192x64 (![] : Fin 0 → Fin S8192x64.rank)

variable [Facts]

def fn {F : FTy → Type} [FloatOps F] (main_arg0 : FVec F S8192x4096 .f32) (main_arg1 : FVec F S4096x64 .f32) (main_arg2 : FVec F S4096x64 .f32) (main_arg3 : FVec F S8192x64 .f32) : IVec S8192x4096 1 × IVec S4096x64 1 × IVec S4096x64 1 × IVec S8192x64 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S4096x64 .f32 := Host.absf main_arg1
  let main_cst_0 : FVec F S_ .f32 := constant S_ .f32 0x7F800000#32
  let main_v4 : FVec F S4096x64 .f32 := broadcastInDim S4096x64 ![] bcast_S_S4096x64 main_cst_0
  let main_v5 : IVec S4096x64 1 := cmpf .olt main_v3 main_v4
  let main_v6 : FVec F S4096x64 .f32 := Host.absf main_arg2
  let main_cst_1 : FVec F S_ .f32 := constant S_ .f32 0x7F800000#32
  let main_v7 : FVec F S4096x64 .f32 := broadcastInDim S4096x64 ![] bcast_S_S4096x64 main_cst_1
  let main_v8 : IVec S4096x64 1 := cmpf .olt main_v6 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  (main_v2, main_v5, main_v8, main_v11)
-- ==== Kernel.lean ====
abbrev S8192x4096 : Shape := ⟨2, ![8192, 4096]⟩
abbrev S4096x64 : Shape := ⟨2, ![4096, 64]⟩
abbrev S8192x64 : Shape := ⟨2, ![8192, 64]⟩
abbrev S64x8192 : Shape := ⟨2, ![64, 8192]⟩
abbrev S64x4096 : Shape := ⟨2, ![64, 4096]⟩
abbrev S128x4096 : Shape := ⟨2, ![128, 4096]⟩
abbrev S1024x4096 : Shape := ⟨2, ![1024, 4096]⟩
abbrev S64x1024 : Shape := ⟨2, ![64, 1024]⟩
abbrev S128x1024 : Shape := ⟨2, ![128, 1024]⟩
abbrev S1024 : Shape := ⟨1, ![1024]⟩
abbrev S1x1024 : Shape := ⟨2, ![1, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S4096x64, .f32⟩
  | .hbm, ⟨3, _⟩ => ⟨S8192x64, .f32⟩
  | .hbm, ⟨4, _⟩ => ⟨S64x8192, .f32⟩
  | .hbm, ⟨5, _⟩ => ⟨S64x4096, .f32⟩
  | .hbm, ⟨6, _⟩ => ⟨S64x4096, .f32⟩
  | .hbm, ⟨7, _⟩ => ⟨S128x4096, .f32⟩
  | .hbm, ⟨8, _⟩ => ⟨S64x8192, .f32⟩
  | .local _ .vmem, ⟨0, _⟩ => ⟨S1024x4096, .f32⟩
  | .local _ .vmem, ⟨1, _⟩ => ⟨S1024x4096, .f32⟩
  | .local _ .vmem, ⟨2, _⟩ => ⟨S128x4096, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8192x4096 : Shape := ⟨2, ![8192, 4096]⟩
abbrev S4096x64 : Shape := ⟨2, ![4096, 64]⟩
abbrev S8192x64 : Shape := ⟨2, ![8192, 64]⟩
abbrev S_ : Shape := ⟨0, ![]⟩
abbrev S8192x3 : Shape := ⟨2, ![8192, 3]⟩
abbrev S8192x2 : Shape := ⟨2, ![8192, 2]⟩
abbrev S8192 : Shape := ⟨1, ![8192]⟩
abbrev S8192x1 : Shape := ⟨2, ![8192, 1]⟩
abbrev S8192x2x1 : Shape := ⟨3, ![8192, 2, 1]⟩
abbrev S8192x2x2 : Shape := ⟨3, ![8192, 2, 2]⟩
abbrev S64x8192 : Shape := ⟨2, ![64, 8192]⟩

abbrev nBuf : Space → Nat
  | .hbm => 67
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x64, .f32⟩
  | .hbm, ⟨2, _⟩ => ⟨S4096x64, .f32⟩
  | .hbm, ⟨3, _⟩ => ⟨S8192x64, .f32⟩
  | .hbm, ⟨4, _⟩ => ⟨S8192x64, .f32⟩
  | .hbm, ⟨5, _⟩ => ⟨S8192x64, .f32⟩
  | .hbm, ⟨6, _⟩ => ⟨S_, .f32⟩
  | .hbm, ⟨7, _⟩ => ⟨S8192x64, .f32⟩
  | .hbm, ⟨8, _⟩ => ⟨S8192x64, .f32⟩
  | .hbm, ⟨9, _⟩ => ⟨S8192x64, .f32⟩
  | .hbm, ⟨10, _⟩ => ⟨S8192x64, .f32⟩
  | .hbm, ⟨11, _⟩ => ⟨S8192x64, .i1⟩
  | .hbm, ⟨12, _⟩ => ⟨S8192x64, .f32⟩
  | .hbm, ⟨13, _⟩ => ⟨S8192x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S8192x64, .f32⟩
  | .hbm, ⟨20, _⟩ => ⟨S_, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S8192x3, .f32⟩
  | .hbm, ⟨26, _⟩ => ⟨S8192x3, .i32⟩
  | .hbm, ⟨27, _⟩ => ⟨S8192x2, .f32⟩
  | .hbm, ⟨28, _⟩ => ⟨S8192x2, .i32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x2, .f32⟩
  | .hbm, ⟨36, _⟩ => ⟨S8192x2, .f32⟩
  | .hbm, ⟨37, _⟩ => ⟨S8192x2, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x2, .f32⟩
  | .hbm, ⟨42, _⟩ => ⟨S8192x2, .f32⟩
  | .hbm, ⟨43, _⟩ => ⟨S8192, .i32⟩
  | .hbm, ⟨44, _⟩ => ⟨S8192x1, .i32⟩
  | .hbm, ⟨45, _⟩ => ⟨S_, .f32⟩
  | .hbm, ⟨46, _⟩ => ⟨S8192x64, .f32⟩
  | .hbm, ⟨47, _⟩ => ⟨S_, .i32⟩
  | .hbm, ⟨48, _⟩ => ⟨S8192x1, .i32⟩
  | .hbm, ⟨49, _⟩ => ⟨S8192x1, .i1⟩
  | .hbm, ⟨50, _⟩ => ⟨S_, .i32⟩
  | .hbm, ⟨51, _⟩ => ⟨S8192x1, .i32⟩
  | .hbm, ⟨52, _⟩ => ⟨S8192x1, .i32⟩
  | .hbm, ⟨53, _⟩ => ⟨S8192x1, .i32⟩
  | .hbm, ⟨54, _⟩ => ⟨S_, .i32⟩
  | .hbm, ⟨55, _⟩ => ⟨S8192x2, .i32⟩
  | .hbm, ⟨56, _⟩ => ⟨S8192x2, .i1⟩
  | .hbm, ⟨57, _⟩ => ⟨S_, .i32⟩
  | .hbm, ⟨58, _⟩ => ⟨S8192x2, .i32⟩
  | .hbm, ⟨59, _⟩ => ⟨S8192x2, .i32⟩
  | .hbm, ⟨60, _⟩ => ⟨S8192x2, .i32⟩
  | .hbm, ⟨61, _⟩ => ⟨S8192x2, .i32⟩
  | .hbm, ⟨62, _⟩ => ⟨S8192x2x1, .i32⟩
  | .hbm, ⟨63, _⟩ => ⟨S8192x2x1, .i32⟩
  | .hbm, ⟨64, _⟩ => ⟨S8192x2x2, .i32⟩
  | .hbm, ⟨65, _⟩ => ⟨S8192x64, .f32⟩
  | .hbm, ⟨66, _⟩ => ⟨S64x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_values : Ref sig .tc := ⟨.hbm, 25, rfl⟩
abbrev main_indices : Ref sig .tc := ⟨.hbm, 26, rfl⟩
abbrev main_v7 : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_c : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_5 : Ref sig .tc := ⟨.hbm, 54, rfl⟩
abbrev main_v28 : Ref sig .tc := ⟨.hbm, 55, rfl⟩
abbrev main_v29 : Ref sig .tc := ⟨.hbm, 56, rfl⟩
abbrev main_c_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩

abbrev nD : Nat := 1
abbrev τ : Topo := Topo.v7x

variable {F : FTy → Type} [FloatOps F]
-- ==== Proof.Row.lean ====
module

public import Idealize.ShloMosaic.PureOps.Ideal.Laws
public import Idealize.ShloMosaic.Lib.SortFacts

/-!
One token's row of 64 noisy logits, as plain mathematics over the extended reals.

`IsTop z p` says `p` is the first place of the row's greatest entry, `IsNext z p q` that `q` is the first place
of the greatest entry among the other places. Each determines its place. `gate z p q` is the row the two programs
are both shown to return: the two-way softmax of the entries at `p` and `q`, and zero elsewhere. A stable
descending sort puts such a `p` first and such a `q` second.
-/

@[expose] public section

noncomputable section

namespace Cert.Proof

open Idealize.ShloMosaic

variable {n : Nat}

/-- `p` is the first place at which `z` is greatest. -/
def IsTop (z : Fin n → EReal) (p : Fin n) : Prop := ∀ k, z k ≤ z p ∧ (k < p → z k < z p)

/-- `q` is the first place, `p` left out, at which `z` is greatest. -/
def IsNext (z : Fin n → EReal) (p q : Fin n) : Prop :=
  q ≠ p ∧ ∀ k, k ≠ p → z k ≤ z q ∧ (k < q → z k < z q)

/-- A row has one top place. -/
theorem IsTop.unique {z : Fin n → EReal} {p p' : Fin n} (h : IsTop z p) (h' : IsTop z p') : p = p' := by
  rcases lt_trichotomy p p' with hl | he | hl
  · exact absurd ((h' p).2 hl) (not_lt.2 (h p').1)
  · exact he
  · exact absurd ((h p').2 hl) (not_lt.2 (h' p).1)

/-- And one next place. -/
theorem IsNext.unique {z : Fin n → EReal} {p q q' : Fin n} (h : IsNext z p q) (h' : IsNext z p q') : q = q' := by
  rcases lt_trichotomy q q' with hl | he | hl
  · exact absurd ((h'.2 q h.1).2 hl) (not_lt.2 (h.2 q' h'.1).1)
  · exact he
  · exact absurd ((h.2 q' h'.1).2 hl) (not_lt.2 (h'.2 q h.1).1)

/-- The gates of a row: the softmax of the two greatest entries at their places, zero at the others. -/
def gate (z : Fin n → EReal) (p q e : Fin n) : EReal :=
  if e = p then Ideal.div 1 (1 + Ideal.exp (z q - z p))
  else if e = q then Ideal.div (Ideal.exp (z q - z p)) (1 + Ideal.exp (z q - z p))
  else 0

/-! ## The stable sort -/

/-- Place `k` comes before place `k'`: a greater entry, or an equal one at an earlier place. -/
def comesFirst (z : Fin n → EReal) (k k' : Fin n) : Bool := decide (z k' < z k ∨ z k = z k' ∧ k < k')

/-- What it means that `k` does not come before `k'`. -/
theorem comesFirst_false {z : Fin n → EReal} {k k' : Fin n} (h : comesFirst z k k' = false) :
    z k ≤ z k' ∧ (k < k' → z k < z k') := by
  have h' := of_decide_eq_false h
  rw [not_or, not_lt] at h'
  exact ⟨h'.1, fun hl => lt_of_le_of_ne h'.1 fun e => h'.2 ⟨e, hl⟩⟩

/-- Two places never both come first. -/
theorem comesFirst_asymm (z : Fin n → EReal) (k k' : Fin n) (h : comesFirst z k k' = true) :
    comesFirst z k' k = false := by
  refine decide_eq_false fun h' => ?_
  rcases of_decide_eq_true h with h | ⟨he, hl⟩ <;> rcases h' with h' | ⟨he', hl'⟩
  · exact absurd h (not_lt.2 h'.le)
  · exact absurd h (not_lt.2 he'.ge)
  · exact absurd h' (not_lt.2 he.ge)
  · exact absurd hl (not_lt.2 hl'.le)

/-- Not coming first is transitive. -/
theorem comesFirst_trans (z : Fin n → EReal) (a b c : Fin n) (h : comesFirst z a b = false) (h' : comesFirst z b c = false) :
    comesFirst z a c = false := by
  obtain ⟨h1, h2⟩ := comesFirst_false h
  obtain ⟨h1', h2'⟩ := comesFirst_false h'
  refine decide_eq_false fun hc => ?_
  rcases hc with hc | ⟨he, hl⟩
  · exact absurd hc (not_lt.2 (h1.trans h1'))
  · have hab : z a = z b := le_antisymm h1 (h1'.trans he.ge)
    have hbc : z b = z c := hab.symm.trans he
    exact absurd hl (not_lt.2 ((le_of_not_gt fun g => absurd (h2' g) (not_lt.2 hbc.ge)).trans
      (le_of_not_gt fun g => absurd (h2 g) (not_lt.2 hab.ge))))

/-- Inserting into a list asks the comparator only about that list's members. -/
theorem insert_same {ι : Type} (R R' : ι → ι → Bool) (a : ι) (l : List ι) (h : ∀ b ∈ l, R b a = R' b a) :
    insertBefore R a l = insertBefore R' a l := by
  induction l with
  | nil => rfl
  | cons b l ih =>
    rw [insertBefore, insertBefore, h b List.mem_cons_self, ih fun c hc => h c (List.mem_cons_of_mem _ hc)]

/-- On a list, the stable sort asks only whether a later member goes before an earlier one. -/
theorem sort_same {ι : Type} (R R' : ι → ι → Bool) (l : List ι) (h : l.Pairwise fun a b => R b a = R' b a) :
    stableSort R l = stableSort R' l := by
  induction l with
  | nil => rfl
  | cons a l ih =>
    obtain ⟨h1, h2⟩ := List.pairwise_cons.1 h
    rw [stableSort, stableSort, ih h2]
    exact insert_same _ _ _ _ fun b hb => h1 b ((perm_stableSort _ _).mem_iff.1 hb)

/-- A stable descending sort keeps equal entries in order of place. -/
theorem sortedFrom_descending (z : Fin n → EReal) :
    sortedFrom (fun k k' => decide (z k' < z k)) = sortedFrom (comesFirst z) := by
  have h : sortPositions n (fun k k' => decide (z k' < z k)) = sortPositions n (comesFirst z) :=
    sort_same _ _ _ ((List.pairwise_lt_finRange n).imp fun {a b} hab => by
      unfold comesFirst
      exact decide_eq_decide.2 ⟨Or.inl, fun h => h.resolve_right fun h => absurd h.2 (not_lt.2 hab.le)⟩)
  funext k
  unfold sortedFrom
  rw [List.get_of_eq h]
  rfl

/-- An earlier place of the sorted row holds an entry that is not smaller, and is not a later place of an equal one. -/
theorem sorted_pair (z : Fin n → EReal) (i j : Fin n) (h : i < j) :
    comesFirst z (sortedFrom (comesFirst z) j) (sortedFrom (comesFirst z) i) = false :=
  sortedFrom_noInversion _ _ (comesFirst_asymm z) (fun _ _ h => h) (comesFirst_trans z) i j h

/-- The sort puts the first greatest entry's place first. -/
theorem sorted_isTop (z : Fin n → EReal) (i : Fin n) (hi : i.val = 0) :
    IsTop z (sortedFrom (fun k k' => decide (z k' < z k)) i) := by
  rw [sortedFrom_descending]
  intro k
  obtain ⟨j, rfl⟩ := sortedFrom_surjective (comesFirst z) k
  by_cases hj : j = i
  · subst hj; exact ⟨le_rfl, fun h => absurd h (lt_irrefl _)⟩
  · exact comesFirst_false (sorted_pair z i j (Fin.lt_def.2 (by have := Fin.val_ne_of_ne hj; omega)))

/-- The sort puts the next one's place second. -/
theorem sorted_isNext (z : Fin n → EReal) (i j : Fin n) (hi : i.val = 0) (hj : j.val = 1) :
    IsNext z (sortedFrom (fun k k' => decide (z k' < z k)) i) (sortedFrom (fun k k' => decide (z k' < z k)) j) := by
  rw [sortedFrom_descending]
  refine ⟨fun h => ?_, fun k hk => ?_⟩
  · have := congrArg Fin.val (sortedFrom_injective _ h); omega
  · obtain ⟨l, rfl⟩ := sortedFrom_surjective (comesFirst z) k
    by_cases hl : l = j
    · subst hl; exact ⟨le_rfl, fun h => absurd h (lt_irrefl _)⟩
    · have hli : l ≠ i := fun h => hk (h ▸ rfl)
      exact comesFirst_false (sorted_pair z j l (Fin.lt_def.2 (by
        have := Fin.val_ne_of_ne hl; have := Fin.val_ne_of_ne hli; omega)))

end Cert.Proof

end
-- ==== Proof.Pick.lean ====
module

public import proofs.«01_k».proof.Proof.Row
public import Idealize.ShloMosaic.Lib.WordCmp

/-!
How a column of 64 values is searched by folds alone: the fold of `max` finds the greatest entry, the fold of the
signed minimum over "the place if its entry is greatest, else 64" finds that entry's first place, and a column with its
top place overwritten by `-∞` has the next place as its top.
-/

@[expose] public section

noncomputable section

namespace Cert.Proof

open Idealize.ShloMosaic

/-- A row of 64 entries has a top place and a next one. -/
theorem exists_places (z : Fin 64 → EReal) : ∃ p q, IsTop z p ∧ IsNext z p q :=
  ⟨_, _, sorted_isTop z 0 rfl, sorted_isNext z 0 1 rfl rfl⟩

/-- The fold of `max` from `-∞` is the entry at the top place. -/
theorem fold_max_top {n : Nat} {z : Fin n → EReal} {p : Fin n} (h : IsTop z p) :
    (Finset.univ : Finset (Fin n)).fold max ⊥ z = z p :=
  le_antisymm (Finset.fold_max_le _ |>.2 ⟨bot_le, fun k _ => (h k).1⟩)
    (Finset.le_fold_max _ |>.2 (Or.inr ⟨p, Finset.mem_univ _, le_rfl⟩))

/-- The word of a place, read as a signed number, is the place. -/
theorem toInt_place (k : Fin 64) : (BitVec.ofNat 32 k.val).toInt = (k.val : Int) :=
  WordCmp.toInt_ofNat_of_lt (by have := k.isLt; omega)

/-- A word is at most a signed minimum exactly when it is at most both operands. -/
theorem le_minsi {c x y : BitVec 32} : c.toInt ≤ (IntOp.minsi x y).toInt ↔ c.toInt ≤ x.toInt ∧ c.toInt ≤ y.toInt := by
  unfold IntOp.minsi
  have h := BitVec.slt_iff_toInt_lt (x := x) (y := y)
  split <;> rename_i hlt
  · have := h.1 hlt; omega
  · have := mt h.2 hlt; omega

/-- The fold of the signed minimum, when place `p` holds its own number and no place holds less, is that number. -/
theorem fold_minsi_place (f : Fin 64 → BitVec 32) (p : Fin 64) (hp : f p = BitVec.ofNat 32 p.val)
    (hle : ∀ k, (p.val : Int) ≤ (f k).toInt) :
    (Finset.univ : Finset (Fin 64)).fold IntOp.minsi 2147483647#32 f = BitVec.ofNat 32 p.val := by
  have key : ∀ c : BitVec 32, c.toInt ≤ ((Finset.univ : Finset (Fin 64)).fold IntOp.minsi 2147483647#32 f).toInt
      ↔ c.toInt ≤ (2147483647#32 : BitVec 32).toInt ∧ ∀ k ∈ (Finset.univ : Finset (Fin 64)), c.toInt ≤ (f k).toInt :=
    fun c => Finset.fold_op_rel_iff_and (r := fun a b : BitVec 32 => a.toInt ≤ b.toInt) (fun {_ _ _} => le_minsi)
  have hmax : (2147483647#32 : BitVec 32).toInt = 2147483647 := by decide
  refine BitVec.eq_of_toInt_eq (le_antisymm ?_ ?_)
  · rw [← hp]
    exact ((key _).1 le_rfl).2 p (Finset.mem_univ _)
  · refine (key _).2 ⟨?_, fun k _ => ?_⟩
    · rw [toInt_place, hmax]; have := p.isLt; omega
    · rw [toInt_place]; exact hle k

/-- The first place at which the column equals its greatest entry is the top place. -/
theorem fold_first_top {z : Fin 64 → EReal} {p : Fin 64} (h : IsTop z p) :
    (Finset.univ : Finset (Fin 64)).fold IntOp.minsi 2147483647#32
      (fun k => Scalar.select (Ideal.cmp .oeq (z k) (z p)) (BitVec.ofNat 32 k.val) 64#32) = BitVec.ofNat 32 p.val := by
  have hs : ∀ k, Scalar.select (Ideal.cmp .oeq (z k) (z p)) (BitVec.ofNat 32 k.val) 64#32
      = if z k = z p then BitVec.ofNat 32 k.val else 64#32 := fun k => WordCmp.select_decide _ _ _
  refine fold_minsi_place _ p ((hs p).trans (if_pos rfl)) fun k => ?_
  rw [hs k]
  split <;> rename_i hk
  · rw [toInt_place]
    have := not_lt.1 fun hl => absurd ((h k).2 hl) (not_lt.2 hk.ge)
    exact_mod_cast Fin.le_def.1 this
  · have : (64#32 : BitVec 32).toInt = 64 := by decide
    rw [this]; have := p.isLt; omega

/-- The column with its top entry overwritten by `-∞`. -/
def masked (z : Fin 64 → EReal) (p k : Fin 64) : EReal := if k = p then ⊥ else z k

/-- Its top place is the next place of the column, if that entry is not `-∞` itself. -/
theorem masked_top {z : Fin 64 → EReal} {p q : Fin 64} (h : IsNext z p q) (hq : z q ≠ ⊥) : IsTop (masked z p) q := by
  have hmq : masked z p q = z q := if_neg h.1
  intro k
  rw [hmq]
  by_cases hk : k = p
  · rw [masked, if_pos hk]
    exact ⟨bot_le, fun _ => bot_lt_iff_ne_bot.2 hq⟩
  · rw [masked, if_neg hk]
    exact h.2 k hk

end Cert.Proof

end
-- ==== Proof.Spec.lean ====
module

public import proofs.«01_k».proof.Proof.Row
public import Idealize.ShloMosaic.Lib.ValueIdxCoords
public import Idealize.ShloMosaic.Lib.IdealHost

/-!
The noisy logits as plain mathematics of the four arguments, and why finite arguments give finite logits.

`softplus x` is `max x 0 + log (1 + exp (-|x|))`, the overflow-free form both programs write. `noisy a b s` joins a
token's clean logit `a`, its raw noise scale `b` and the noise sample `s`. `logit` takes `a` and `b` from the
arguments, as sums over the 4096 features.
-/

@[expose] public section

noncomputable section

namespace Cert.Proof

open Idealize.ShloMosaic Idealize.ShloMosaic.ValueIdx

/-- The logarithm of one plus the exponential, in the form that does not overflow. -/
def softplus (x : EReal) : EReal := max x 0 + Ideal.log1p (Ideal.exp (-(max x (-x))))

/-- The clean logit `a` plus the noise `s` scaled by `softplus b` and the floor the programs print as `0x3C23D70A`. -/
def noisy (a b s : EReal) : EReal := a + s * (softplus b + Ideal.ofBits .f32 0x3C23D70A#32)

/-- Entry `(t, e)` of the product of the tokens with a weight matrix. -/
def dotAt (x : (⟨2, ![8192, 4096]⟩ : Shape).Idx → EReal) (w : (⟨2, ![4096, 64]⟩ : Shape).Idx → EReal)
    (t : Fin 8192) (e : Fin 64) : EReal := ∑ k : Fin 4096, x (ix2 t k) * w (ix2 k e)

/-- Token `t`'s noisy logit for expert `e`. -/
def logit (x : (⟨2, ![8192, 4096]⟩ : Shape).Idx → EReal) (wg wn : (⟨2, ![4096, 64]⟩ : Shape).Idx → EReal)
    (ns : (⟨2, ![8192, 64]⟩ : Shape).Idx → EReal) (t : Fin 8192) (e : Fin 64) : EReal :=
  noisy (dotAt x wg t e) (dotAt x wn t e) (ns (ix2 t e))

/-! ## Finiteness -/

/-- An extended real that is a real number. -/
def Finite (x : EReal) : Prop := ∃ r : ℝ, x = (r : EReal)

/-- A real number is not `-∞`. -/
theorem Finite.ne_bot {x : EReal} (h : Finite x) : x ≠ ⊥ := by
  obtain ⟨r, rfl⟩ := h; exact EReal.coe_ne_bot r

/-- Sums of real numbers are real. -/
theorem Finite.add {x y : EReal} (hx : Finite x) (hy : Finite y) : Finite (x + y) := by
  obtain ⟨r, rfl⟩ := hx; obtain ⟨s, rfl⟩ := hy; exact ⟨r + s, (EReal.coe_add r s).symm⟩

/-- So are products. -/
theorem Finite.mul {x y : EReal} (hx : Finite x) (hy : Finite y) : Finite (x * y) := by
  obtain ⟨r, rfl⟩ := hx; obtain ⟨s, rfl⟩ := hy; exact ⟨r * s, (EReal.coe_mul r s).symm⟩

/-- So are finite sums. -/
theorem Finite.sum {ι : Type} (s : Finset ι) (f : ι → EReal) (h : ∀ i, Finite (f i)) : Finite (∑ i ∈ s, f i) := by
  classical
  induction s using Finset.induction_on with
  | empty => exact ⟨0, Finset.sum_empty⟩
  | insert a s ha ih => rw [Finset.sum_insert ha]; exact (h a).add ih

/-- So is the softplus of a real number. -/
theorem Finite.softplus {x : EReal} (hx : Finite x) : Finite (softplus x) := by
  obtain ⟨r, rfl⟩ := hx
  have hm : max (r : EReal) (-(r : EReal)) = ((max r (-r) : ℝ) : EReal) := by
    rw [← EReal.coe_neg]; exact (EReal.coe_strictMono.monotone.map_max).symm
  have h0 : Finite (max (r : EReal) 0) := ⟨max r 0, (EReal.coe_strictMono.monotone.map_max (a := r) (b := 0)).symm⟩
  refine h0.add ⟨Real.log (1 + Real.exp (-(max r (-r)))), ?_⟩
  have hpos : ¬ (1 + Real.exp (-(max r (-r)))) ≤ 0 := not_le.2 (by positivity)
  rw [hm, ← EReal.coe_neg, Ideal.exp_coe, Ideal.log1p, ← EReal.coe_one, ← EReal.coe_add, Ideal.log_coe, if_neg hpos]

/-- The floor `0x3C23D70A` is a real number. -/
theorem finite_floor : Finite (Ideal.ofBits .f32 0x3C23D70A#32) := by
  refine ⟨?_, ?_⟩
  rotate_left
  · simp only [Ideal.ofBits, Ideal.ieee]
    rw [if_neg (by decide), if_neg (by decide)]

/-- Real arguments give real logits. -/
theorem finite_logit {x : (⟨2, ![8192, 4096]⟩ : Shape).Idx → EReal} {wg wn : (⟨2, ![4096, 64]⟩ : Shape).Idx → EReal}
    {ns : (⟨2, ![8192, 64]⟩ : Shape).Idx → EReal} (hx : ∀ i, Finite (x i)) (hg : ∀ i, Finite (wg i))
    (hn : ∀ i, Finite (wn i)) (hs : ∀ i, Finite (ns i)) (t : Fin 8192) (e : Fin 64) : Finite (logit x wg wn ns t e) :=
  (Finite.sum _ _ fun _ => (hx _).mul (hg _)).add
    ((hs _).mul ((Finite.sum _ _ fun _ => (hx _).mul (hn _)).softplus.add finite_floor))

end Cert.Proof

end
-- ==== Proof.Target.lean ====
module

public import proofs.«01_k».proof.Proof.Pick
public import proofs.«01_k».proof.Proof.Spec

/-!
The array both programs are shown to leave, as one function of the four arguments.
-/

@[expose] public section

noncomputable section

namespace Cert.Proof

open Idealize.ShloMosaic

/-- A row's gates, at the two places every row has. -/
def gates (z : Fin 64 → EReal) (e : Fin 64) : EReal :=
  gate z (exists_places z).choose (exists_places z).choose_spec.choose e

/-- Whoever finds the two places finds the same ones. -/
theorem gates_eq {z : Fin 64 → EReal} {p q : Fin 64} (hp : IsTop z p) (hq : IsNext z p q) (e : Fin 64) :
    gates z e = gate z p q e := by
  have h := (exists_places z).choose_spec.choose_spec
  unfold gates
  generalize (exists_places z).choose_spec.choose = q' at h ⊢
  generalize (exists_places z).choose = p' at h ⊢
  obtain rfl : p' = p := h.1.unique hp
  obtain rfl : q' = q := h.2.unique hq
  rfl

/-- The array both programs end with: experts along the first axis, tokens along the second. -/
def gateArray (x : (⟨2, ![8192, 4096]⟩ : Shape).Idx → EReal) (wg wn : (⟨2, ![4096, 64]⟩ : Shape).Idx → EReal)
    (ns : (⟨2, ![8192, 64]⟩ : Shape).Idx → EReal) : (⟨2, ![64, 8192]⟩ : Shape).Idx → EReal :=
  fun i => gates (logit x wg wn ns (i 1)) (i 0)

end Cert.Proof

end
-- ==== Proof.Payload.lean ====
module

public import proofs.«01_k».proof.Proof.Target
public import proofs.«01_k».proof.Proof.Gen.KernelIdeal.Skeleton
public import Idealize.ShloMosaic.Lib.ValueIdx
public import Idealize.ShloMosaic.Lib.ValueLayout
public import Idealize.ShloMosaic.Lib.MatmulPlain

/-!
What the kernel's body computes from the three blocks it loads, element by element.

`pay2_at` reads the block of noisy logits. The lemmas after it follow one column (one token) of that block through the
two searches for a maximum and its place, and `block_at` gives the stored block: the column's gates.
-/

@[expose] public section

noncomputable section

namespace Cert.Proof

open Idealize.ShloMosaic Idealize.ShloMosaic.ValueIdx Cert.KernelIdeal Cert.KernelIdeal.Gen

variable (x : FVec Ideal S1024x4096 .f32) (w : FVec Ideal S128x4096 .f32) (ns : FVec Ideal S64x1024 .f32)

/-- Row `r` of the stacked weights against token `t` of the block. -/
def blockDot (r : Fin 128) (t : Fin 1024) : EReal := ∑ k : Fin 4096, w (ix2 r k) * x (ix2 t k)

/-- The place of expert `e`'s gate weights in the stack. -/
abbrev lower (e : Fin 64) : Fin 128 := ⟨e.val, by have := e.isLt; omega⟩
/-- The place of expert `e`'s noise weights in the stack. -/
abbrev upper (e : Fin 64) : Fin 128 := ⟨64 + e.val, by have := e.isLt; omega⟩

/-- The block of noisy logits. -/
theorem pay2_at (e : Fin 64) (t : Fin 1024) :
    k0_pay2 (F := Ideal) x w ns (ix2 e t) = noisy (blockDot x w (lower e) t) (blockDot x w (upper e) t) (ns (ix2 e t)) := by
  have hdot : ∀ r : Fin 128, matmul dot_S128x4096_S1024x4096_S128x1024_1_1_0_0_n_n none w x
      (constant S128x1024 .f32 0x00000000#32) (ix2 r t)
      = blockDot x w r t := by
    intro r
    refine (Ideal.matmul_transposedRhs_apply none w x _ r t).trans ?_
    rw [constant_apply, Ideal.ofBits_zero_f32, zero_add]
    rfl
  unfold k0_pay2
  have hl : ∀ v : FVec Ideal S128x1024 .f32, extractStridedSlice S64x1024 ![0, 0] v slices_S128x1024_o0_0_S64x1024 (ix2 e t)
      = v (ix2 (lower e) t) := fun v => slice2_axis0_apply 0 v _ e t (lower e) (Nat.zero_add _).symm
  have hu : ∀ v : FVec Ideal S128x1024 .f32, extractStridedSlice S64x1024 ![64, 0] v slices_S128x1024_o64_0_S64x1024 (ix2 e t)
      = v (ix2 (upper e) t) := fun v => slice2_axis0_apply 64 v _ e t (upper e) rfl
  have hcmp : ∀ v : EReal, FloatOps.cmpf (F := Ideal) (φ := .f32) .one v v = 0#1 := fun v => by
    show Ideal.cmp .one v v = 0#1
    unfold Ideal.cmp
    simp
  have habs : ∀ (v : FVec Ideal S64x1024 .f32) (i : S64x1024.Idx), absf v i = max (v i) (-(v i)) := fun _ _ => rfl
  have hexp : ∀ (v : FVec Ideal S64x1024 .f32) (i : S64x1024.Idx), exp v i = Ideal.exp (v i) := fun _ _ => rfl
  have hlog : ∀ (v : FVec Ideal S64x1024 .f32) (i : S64x1024.Idx), log1p v i = Ideal.log1p (v i) := fun _ _ => rfl
  have hz : (Scalar.ofBits .f32 0x00000000#32 : Ideal .f32) = 0 := Ideal.ofBits_zero_f32
  simp only [addf_apply, mulf_apply, select_apply, cmpf_apply, hcmp, select_zero, maximumf_apply, subf_apply, broadcast_apply,
    habs, hexp, hlog, hl, hu, hdot, hz, sub_zero, zero_sub, shapeCast_self]
  rfl

/-- The place numbers: entry `(e, t)` of the body's iota is `e`. -/
theorem places_at (e : Fin 64) (t : Fin 1024) :
    iota .tc S64x1024 32 [0] iota_S64x1024_d0_w32 (ix2 e t) = BitVec.ofNat 32 e.val :=
  iota_single_apply ..

/-- The entries reduced into column `t` are those of column `t`. -/
theorem lift_column (t : Fin 1024) (e : Fin 64) : reduces_S64x1024_S1024.lift (ix1 t) e = ix2 e t :=
  funext fun a => match a with | ⟨0, _⟩ => rfl | ⟨1, _⟩ => rfl

/-- A column's maximum, laid out as a row. -/
theorem colMax_at (v : FVec Ideal S64x1024 .f32) (u : Fin 1) (t : Fin 1024) {z : Fin 64 → EReal} {p : Fin 64}
    (hz : ∀ e, v (ix2 e t) = z e) (hp : IsTop z p) :
    shapeCast S1x1024 (multiReduction .maximumf [0] S1024 v 0xFF800000#32 reduces_S64x1024_S1024 (.inl rfl) rfl)
      shapeCasts_S1024_S1x1024 (ix2 u t) = z p := by
  have hb : (FloatOps.ofBits .f32 0xFF800000#32 : Ideal .f32) = ⊥ := by simp [Ideal.ofBits, Ideal.ieee]
  refine (shapeCast_a_1a_apply ..).trans ((Ideal.multiReduction_maximumf_single ..).trans ?_)
  rw [hb, ← fold_max_top hp]
  exact congrArg (Finset.fold max ⊥ · _) (funext fun e => (congrArg v (lift_column t e)).trans (hz e))

/-- A column's signed minimum, laid out as a row. -/
theorem colMin_at (v : IVec S64x1024 32) (u : Fin 1) (t : Fin 1024) (f : Fin 64 → BitVec 32) (hf : ∀ e, v (ix2 e t) = f e) :
    shapeCast S1x1024 (multiReductionI .minsi [0] S1024 v 2147483647#32 reduces_S64x1024_S1024 rfl)
      shapeCasts_S1024_S1x1024 (ix2 u t) = (Finset.univ : Finset (Fin 64)).fold IntOp.minsi 2147483647#32 f := by
  refine (shapeCast_a_1a_apply ..).trans ((multiReductionI_eq_fold ..).trans ?_)
  rw [Shape.Reduces.fold_filter_drop_single]
  exact congrArg (Finset.fold IntOp.minsi 2147483647#32 · _) (funext fun e => (congrArg v (lift_column t e)).trans (hf e))

/-- Comparing the place numbers with a row that holds place `p` at this column asks whether the place is `p`. -/
theorem select_place {α : Type} (e p : Fin 64) (a b : α) :
    Scalar.select (IntOp.cmpi .eq (BitVec.ofNat 32 e.val) (BitVec.ofNat 32 p.val)) a b = if e = p then a else b := by
  have he := e.isLt
  have hp := p.isLt
  rw [WordCmp.cmpi_eq_ofNat (by omega) (by omega), WordCmp.select_decide]
  exact if_congr Fin.ext_iff.symm rfl rfl

section Column

variable {x w ns} {t : Fin 1024} {z : Fin 64 → EReal} {p q : Fin 64}

/-- The first search finds the greatest entry. -/
theorem pay3_at (hz : ∀ e, k0_pay2 (F := Ideal) x w ns (ix2 e t) = z e) (hp : IsTop z p) (u : Fin 1) :
    k0_pay3 (F := Ideal) x w ns (ix2 u t) = z p := colMax_at _ u t hz hp

/-- And the word of its place. -/
theorem pay4_at (hz : ∀ e, k0_pay2 (F := Ideal) x w ns (ix2 e t) = z e) (hp : IsTop z p) (u : Fin 1) :
    k0_pay4 (F := Ideal) x w ns (ix2 u t) = BitVec.ofNat 32 p.val := by
  refine (colMin_at _ u t _ fun e => ?_).trans (fold_first_top hp)
  rw [select_apply, cmpf_apply, places_at, broadcastTo_1b_ab_apply, pay3_at hz hp, hz]
  rfl

/-- The column with that entry overwritten. -/
theorem pay5_at (hz : ∀ e, k0_pay2 (F := Ideal) x w ns (ix2 e t) = z e) (hp : IsTop z p) (e : Fin 64) :
    k0_pay5 (F := Ideal) x w ns (ix2 e t) = masked z p e := by
  have hb : (Scalar.ofBits .f32 0xFF800000#32 : Ideal .f32) = ⊥ := by
    show Ideal.ofBits .f32 0xFF800000#32 = ⊥
    simp [Ideal.ofBits, Ideal.ieee]
  unfold k0_pay5
  rw [select_apply, broadcast_apply, hb, hz]
  show Scalar.select (IntOp.cmpi .eq (iota .tc S64x1024 32 [0] iota_S64x1024_d0_w32 (ix2 e t))
    (broadcastTo S64x1024 (k0_pay4 (F := Ideal) x w ns) broadcasts_S1x1024_S64x1024 (ix2 e t))) _ _ = _
  rw [places_at, broadcastTo_1b_ab_apply, pay4_at hz hp, select_place]
  rfl

/-- The second search finds the next entry. -/
theorem pay6_at (hz : ∀ e, k0_pay2 (F := Ideal) x w ns (ix2 e t) = z e) (hp : IsTop z p) (hq : IsTop (masked z p) q) (hqp : q ≠ p)
    (u : Fin 1) : k0_pay6 (F := Ideal) x w ns (ix2 u t) = z q :=
  (colMax_at _ u t (pay5_at hz hp) hq).trans (if_neg hqp)

/-- The word of the second search's place. -/
theorem second_at (hz : ∀ e, k0_pay2 (F := Ideal) x w ns (ix2 e t) = z e) (hp : IsTop z p) (hq : IsTop (masked z p) q) (hqp : q ≠ p)
    (u : Fin 1) :
    shapeCast S1x1024 (multiReductionI .minsi [0] S1024
        (select (k0_pay7 (F := Ideal) x w ns) (iota .tc S64x1024 32 [0] iota_S64x1024_d0_w32) (broadcast S64x1024 64#32))
        2147483647#32 reduces_S64x1024_S1024 rfl) shapeCasts_S1024_S1x1024 (ix2 u t) = BitVec.ofNat 32 q.val := by
  refine (colMin_at _ u t _ fun e => ?_).trans (fold_first_top hq)
  unfold k0_pay7
  rw [select_apply, cmpf_apply, places_at, broadcastTo_1b_ab_apply, pay6_at hz hp hq hqp, pay5_at hz hp,
    show z q = masked z p q from (if_neg hqp).symm]
  rfl

/-- The stored block: each column holds its gates. -/
theorem block_at (hz : ∀ e, k0_pay2 (F := Ideal) x w ns (ix2 e t) = z e) (hp : IsTop z p) (hq : IsNext z p q) (hb : z q ≠ ⊥) (e : Fin 64) :
    k0_pay1 (F := Ideal) (iota .tc S64x1024 32 [0] iota_S64x1024_d0_w32) (k0_pay3 (F := Ideal) x w ns) (k0_pay4 (F := Ideal) x w ns) (k0_pay6 (F := Ideal) x w ns)
      (k0_pay7 (F := Ideal) x w ns) 64#32 (ix2 e t) = gate z p q e := by
  have hq' := masked_top hq hb
  have h1 : (Scalar.ofBits .f32 0x3F800000#32 : Ideal .f32) = 1 := Ideal.ofBits_one_f32
  have h0 : (Scalar.ofBits .f32 0x00000000#32 : Ideal .f32) = 0 := Ideal.ofBits_zero_f32
  have hexp : ∀ (v : FVec Ideal S1x1024 .f32) (i : S1x1024.Idx), exp v i = Ideal.exp (v i) := fun _ _ => rfl
  have hc : ∀ (a b : IVec S64x1024 32) (i : S64x1024.Idx), cmpi .eq a b i = IntOp.cmpi .eq (a i) (b i) := fun _ _ _ => rfl
  unfold k0_pay1
  simp only [select_apply, hc, broadcastTo_1b_ab_apply, pay4_at hz hp, second_at hz hp hq' hq.1,
    shapeCast_self, divf_apply, addf_apply, subf_apply, hexp, broadcast_apply, pay3_at hz hp, pay6_at hz hp hq' hq.1, h1, h0]
  rw [places_at, select_place, select_place]
  rfl

end Column

end Cert.Proof

end
-- ==== Proof.KernelArray.lean ====
module

public import proofs.«01_k».proof.Proof.Payload
public import proofs.«01_k».proof.Proof.Gen.KernelIdeal.Value

/-!
The array the kernel leaves: entry `(e, t)` is token `t`'s gate for expert `e`.

Grid point `g` handles tokens `1024 g` to `1024 g + 1023`. `tokens_at`, `lower_at`, `upper_at` and `noise_at` read its three
input blocks from the launch arguments, through the transposes and the stacking done before the kernel starts.
`flushed_at` puts the body's block (`block_at`) over them, and `array_eq` joins the eight blocks.
-/

@[expose] public section

noncomputable section

namespace Cert.Proof

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (c : Dev nD)

/-- The tokens, on device `c`. -/
abbrev argX : (⟨2, ![8192, 4096]⟩ : Shape).Idx → EReal := m ((c : Thread nD τ).loc main_arg0)
/-- The gate weights. -/
abbrev argG : (⟨2, ![4096, 64]⟩ : Shape).Idx → EReal := m ((c : Thread nD τ).loc main_arg1)
/-- The noise weights. -/
abbrev argN : (⟨2, ![4096, 64]⟩ : Shape).Idx → EReal := m ((c : Thread nD τ).loc main_arg2)
/-- The noise samples. -/
abbrev argS : (⟨2, ![8192, 64]⟩ : Shape).Idx → EReal := m ((c : Thread nD τ).loc main_arg3)

/-! ## Where each block lies -/

/-- The block of tokens at point `g` starts at row block `g`. -/
theorem where0 : ∀ g : Fin cfg0.N, win0_0.index g (0 : Fin 2) = g.val ∧ win0_0.index g (1 : Fin 2) = 0 :=
  (by decide +kernel : ∀ g : Fin grid0.N, _)
/-- Every point takes the whole stack of weights. -/
theorem where1 : ∀ g : Fin cfg0.N, win0_1.index g (0 : Fin 2) = 0 ∧ win0_1.index g (1 : Fin 2) = 0 :=
  (by decide +kernel : ∀ g : Fin grid0.N, _)
/-- The block of noise at point `g` starts at column block `g`. -/
theorem where2 : ∀ g : Fin cfg0.N, win0_2.index g (0 : Fin 2) = 0 ∧ win0_2.index g (1 : Fin 2) = g.val :=
  (by decide +kernel : ∀ g : Fin grid0.N, _)
/-- So does the block it writes. -/
theorem where3 : ∀ g : Fin cfg0.N, win0_3.index g (0 : Fin 2) = 0 ∧ win0_3.index g (1 : Fin 2) = g.val :=
  (by decide +kernel : ∀ g : Fin grid0.N, _)

/-- Column `t` of point `g`'s blocks is this token. -/
def token (g : Fin cfg0.N) (t : Fin 1024) : Fin 8192 :=
  ⟨g.val * 1024 + t.val, by have h : g.val < 8 := g.isLt; have := t.isLt; omega⟩

/-- Where an element of the block of tokens lies in its array. -/
theorem place0 (g : Fin cfg0.N) (t : Fin 1024) (k : Fin 4096) :
    ((cfg0.win 0).blk g).view.emb (ix2 t k : S1024x4096.Idx) = (ix2 (token g t) k : S8192x4096.Idx) := by
  obtain ⟨h0, h1⟩ := where0 g
  funext a
  apply Fin.ext
  match a with
  | ⟨0, _⟩ => show win0_0.index g (0 : Fin 2) * 1024 + 1 * t.val = g.val * 1024 + t.val; omega
  | ⟨1, _⟩ => show win0_0.index g (1 : Fin 2) * 4096 + 1 * k.val = k.val; omega

/-- Where an element of the stacked weights lies. -/
theorem place1 (g : Fin cfg0.N) (r : Fin 128) (k : Fin 4096) :
    ((cfg0.win 1).blk g).view.emb (ix2 r k : S128x4096.Idx) = (ix2 r k : S128x4096.Idx) := by
  obtain ⟨h0, h1⟩ := where1 g
  funext a
  apply Fin.ext
  match a with
  | ⟨0, _⟩ => show win0_1.index g (0 : Fin 2) * 128 + 1 * r.val = r.val; omega
  | ⟨1, _⟩ => show win0_1.index g (1 : Fin 2) * 4096 + 1 * k.val = k.val; omega

/-- Where an element of the block of noise lies. -/
theorem place2 (g : Fin cfg0.N) (e : Fin 64) (t : Fin 1024) :
    ((cfg0.win 2).blk g).view.emb (ix2 e t : S64x1024.Idx) = (ix2 e (token g t) : S64x8192.Idx) := by
  obtain ⟨h0, h1⟩ := where2 g
  funext a
  apply Fin.ext
  match a with
  | ⟨0, _⟩ => show win0_2.index g (0 : Fin 2) * 64 + 1 * e.val = e.val; omega
  | ⟨1, _⟩ => show win0_2.index g (1 : Fin 2) * 1024 + 1 * t.val = g.val * 1024 + t.val; omega

/-- Where an element of the written block lies. -/
theorem place3 (g : Fin cfg0.N) (e : Fin 64) (t : Fin 1024) :
    ((cfg0.win 3).blk g).view.emb (ix2 e t : S64x1024.Idx) = (ix2 e (token g t) : S64x8192.Idx) := by
  obtain ⟨h0, h1⟩ := where3 g
  funext a
  apply Fin.ext
  match a with
  | ⟨0, _⟩ => show win0_3.index g (0 : Fin 2) * 64 + 1 * e.val = e.val; omega
  | ⟨1, _⟩ => show win0_3.index g (1 : Fin 2) * 1024 + 1 * t.val = g.val * 1024 + t.val; omega

/-! ## The arrays the kernel reads -/

/-- The noise the kernel reads is its argument transposed. -/
theorem noise_array : V m c main_v0 = transpose S64x8192 [1, 0] (argS m c) transposes_S8192x64_S64x8192_1_0 := by
  simp only [V, hostOps0]
  after_results_simp
  try rfl

/-- The weights the kernel reads are the two transposed weight matrices, one above the other. -/
theorem weight_array : V m c main_v3 = concatenate S128x4096 0
    [⟨S64x4096, transpose S64x4096 [1, 0] (argG m c) transposes_S4096x64_S64x4096_1_0⟩,
     ⟨S64x4096, transpose S64x4096 [1, 0] (argN m c) transposes_S4096x64_S64x4096_1_0⟩]
    concatenates_S64x4096_S64x4096_S128x4096_d0 := by
  simp only [V, hostOps0]
  after_results_simp
  try rfl

/-- The block of tokens, read from the argument. -/
theorem tokens_at (g : Fin cfg0.N) (t : Fin 1024) (k : Fin 4096) :
    iblk m c 0 g (ix2 t k : S1024x4096.Idx) = argX m c (ix2 (token g t) k) := by
  show V m c main_arg0 (((cfg0.win 0).blk g).view.emb (ix2 t k : S1024x4096.Idx)) = _
  rw [place0, V_main_arg0]

/-- The lower half of the stack holds the gate weights. -/
theorem lower_at (g : Fin cfg0.N) (e : Fin 64) (k : Fin 4096) :
    iblk m c 1 g (ix2 (lower e) k : S128x4096.Idx) = argG m c (ix2 k e) := by
  show V m c main_v3 (((cfg0.win 1).blk g).view.emb (ix2 (lower e) k : S128x4096.Idx)) = _
  rw [place1, weight_array]
  refine (concatenate_pair_apply_left (t := S128x4096) (s₁ := S64x4096) (s₂ := S64x4096) 0 _ _ _ _ rfl (ix2 e k) ?_).trans
    (transpose_ix2_apply _ _ e k)
  intro b
  match b with
  | ⟨0, _⟩ => rfl
  | ⟨1, _⟩ => rfl

/-- The upper half of the stack holds the noise weights. -/
theorem upper_at (g : Fin cfg0.N) (e : Fin 64) (k : Fin 4096) :
    iblk m c 1 g (ix2 (upper e) k : S128x4096.Idx) = argN m c (ix2 k e) := by
  show V m c main_v3 (((cfg0.win 1).blk g).view.emb (ix2 (upper e) k : S128x4096.Idx)) = _
  rw [place1, weight_array]
  refine (concatenate_pair_apply_right (t := S128x4096) (s₁ := S64x4096) (s₂ := S64x4096) 0 _ _ _ _ rfl rfl (ix2 e k) ?_ ?_).trans
    (transpose_ix2_apply _ _ e k)
  · intro b hb
    match b with
    | ⟨0, _⟩ => exact absurd rfl hb
    | ⟨1, _⟩ => rfl
  · exact Nat.add_comm _ _

/-- The block of noise, read from the argument. -/
theorem noise_at (g : Fin cfg0.N) (e : Fin 64) (t : Fin 1024) :
    iblk m c 2 g (ix2 e t : S64x1024.Idx) = argS m c (ix2 (token g t) e) := by
  show V m c main_v0 (((cfg0.win 2).blk g).view.emb (ix2 e t : S64x1024.Idx)) = _
  rw [place2, noise_array]
  exact transpose_ix2_apply _ _ _ _

/-- The block of logits at point `g` holds its tokens' logits. -/
theorem logits_at (g : Fin cfg0.N) (t : Fin 1024) (e : Fin 64) :
    k0_pay2 (F := Ideal) (iblk m c 0 g) (iblk m c 1 g) (iblk m c 2 g) (ix2 e t)
      = logit (argX m c) (argG m c) (argN m c) (argS m c) (token g t) e := by
  have h1 : blockDot (iblk m c 0 g) (iblk m c 1 g) (lower e) t = dotAt (argX m c) (argG m c) (token g t) e :=
    Finset.sum_congr rfl fun k _ => by rw [lower_at, tokens_at, mul_comm]
  have h2 : blockDot (iblk m c 0 g) (iblk m c 1 g) (upper e) t = dotAt (argX m c) (argN m c) (token g t) e :=
    Finset.sum_congr rfl fun k _ => by rw [upper_at, tokens_at, mul_comm]
  rw [pay2_at, h1, h2, noise_at]
  rfl

/-! ## The array it writes -/

/-- The block the body stores at point `g` holds the gates of its tokens. -/
theorem body_at (g : Fin cfg0.N)
    (hb : ∀ t e, logit (argX m c) (argG m c) (argN m c) (argS m c) t e ≠ ⊥) (e : Fin 64) (t : Fin 1024) :
    out0_3 (F := Ideal) (iblk m c 0 g) (iblk m c 1 g) (iblk m c 2 g) (ix2 e t)
      = gates (logit (argX m c) (argG m c) (argN m c) (argS m c) (token g t)) e := by
  have hz : (![0, 0] : Fin 2 → Nat) = fun _ => 0 := funext fun a => match a with | ⟨0, _⟩ => rfl | ⟨1, _⟩ => rfl
  obtain ⟨p, q, hp, hq⟩ := exists_places (logit (argX m c) (argG m c) (argN m c) (argS m c) (token g t))
  unfold out0_3
  rw [View.canon_unit_zero hz, View.ld_unit_zero hz, View.ld_unit_zero hz, View.ld_unit_zero hz, gates_eq hp hq]
  exact block_at (logits_at m c g t) hp hq (hb _ _) e

/-- What point `g` writes back is its block of the array of gates. -/
theorem flushed_at (g : Fin cfg0.N)
    (hb : ∀ t e, logit (argX m c) (argG m c) (argN m c) (argS m c) t e ≠ ⊥) :
    (dats m 0 c).flushed 3 g = ((cfg0.win 3).blk g).view.read (Elt Ideal)
      (gateArray (argX m c) (argG m c) (argN m c) (argS m c)) := by
  rw [Cert.KernelIdeal.Value.flushed3]
  have h : ∀ y : S64x1024.Idx, out0_3 (F := Ideal) (iblk m c 0 g) (iblk m c 1 g) (iblk m c 2 g) y
      = gateArray (argX m c) (argG m c) (argN m c) (argS m c) (((cfg0.win 3).blk g).view.emb y) := by
    intro y
    obtain ⟨e, t, rfl⟩ : ∃ (e : Fin 64) (t : Fin 1024), y = ix2 e t := ⟨y 0, y 1, eq_ix2 y⟩
    rw [place3, body_at m c g hb]
    rfl
  exact funext h

/-- An entry of a token of point `g` lies in the block of `g`. -/
theorem covered_at (g : Fin cfg0.N) (e : Fin 64) (t : Fin 1024) :
    (ix2 e (token g t) : S64x8192.Idx) ∈ ((cfg0.win 3).blk g).view.set := by
  have h := ((cfg0.win 3).blk g).view.emb_mem_set (ix2 e t : S64x1024.Idx)
  rwa [place3] at h

/-- Every entry lies in the block of its token's grid point. -/
theorem covered (i : S64x8192.Idx) : ∃ g : Fin cfg0.N, (cfg0.win 3).flush g = true ∧ i ∈ ((cfg0.win 3).blk g).view.set := by
  obtain ⟨e, u, rfl⟩ : ∃ (e : Fin 64) (u : Fin 8192), i = ix2 e u := ⟨i 0, i 1, eq_ix2 i⟩
  have hg : u.val / 1024 < 8 := by have := u.isLt; omega
  have hu : u = token (⟨u.val / 1024, hg⟩ : Fin 8) ⟨u.val % 1024, Nat.mod_lt _ (by decide)⟩ :=
    Fin.ext (Nat.div_add_mod' u.val 1024).symm
  refine ⟨(⟨u.val / 1024, hg⟩ : Fin 8), flush0_3 _, ?_⟩
  have h := covered_at (⟨u.val / 1024, hg⟩ : Fin 8) e ⟨u.val % 1024, Nat.mod_lt _ (by decide)⟩
  rwa [← hu] at h

/-- The kernel's result. -/
theorem array_eq (hb : ∀ t e, logit (argX m c) (argG m c) (argN m c) (argS m c) t e ≠ ⊥) :
    (dats m 0 c).arrAt 3 cfg0.N = gateArray (argX m c) (argG m c) (argN m c) (argS m c) :=
  (dats m 0 c).arrAt_eq_of_cover 3 _ (fun g _ => flushed_at m c g hb) covered

end Cert.Proof

end
-- ==== Proof.RefRow.lean ====
module

public import proofs.«01_k».proof.Proof.Target
public import proofs.«01_k».proof.Proof.Gen.ReferenceIdeal.Read
public import Idealize.ShloMosaic.Lib.ValueIdx
public import Idealize.ShloMosaic.Lib.ValueLayout

/-!
The reference up to its two gates per token: the noisy logits, the sort by `top_k`, and the softmax of the two largest.

`first z` and `second z` are the places the descending stable sort puts at the front; they are the row's two places.
`ref_exp` and `ref_sum` give the numerators and the denominator of the softmax.
-/

@[expose] public section

noncomputable section

namespace Cert.Proof

open Idealize.ShloMosaic Idealize.ShloMosaic.ValueIdx Cert.ReferenceIdeal Cert.ReferenceIdeal.Facts₀ Cert.ReferenceIdeal.Read

variable (x : (⟨2, ![8192, 4096]⟩ : Shape).Idx → EReal) (wg wn : (⟨2, ![4096, 64]⟩ : Shape).Idx → EReal)
  (ns : (⟨2, ![8192, 64]⟩ : Shape).Idx → EReal)

/-- The reference's noisy logits. -/
theorem ref_logit (t : Fin 8192) (e : Fin 64) :
    val_main_v6 (F := Ideal) x wg wn ns (ix2 t e) = logit x wg wn ns t e := by
  have hdot : ∀ w : (⟨2, ![4096, 64]⟩ : Shape).Idx → EReal,
      ∑ k : Fin 4096, x (lidx_main_v0 (ix2 t e) k) * w (ridx_main_v0 (ix2 t e) k) = dotAt x w t e := fun w =>
    Finset.sum_congr rfl fun k _ => congrArg₂ (· * ·)
      (congrArg x (funext fun a => match a with | ⟨0, _⟩ => rfl | ⟨1, _⟩ => rfl))
      (congrArg w (funext fun a => match a with | ⟨0, _⟩ => rfl | ⟨1, _⟩ => rfl))
  have hd0 : val_main_v0 (F := Ideal) x wg (ix2 t e) = dotAt x wg t e := (val_main_v0_apply ..).trans (hdot wg)
  have hd1 : val_main_v1 (F := Ideal) x wn (ix2 t e) = dotAt x wn t e := (val_main_v1_apply ..).trans (hdot wn)
  have hcmp : ∀ v : EReal, FloatOps.cmpf (F := Ideal) (φ := .f32) .une v v = 0#1 := fun v => by
    show Ideal.cmp .une v v = 0#1
    unfold Ideal.cmp
    simp
  have hz : (FloatOps.ofBits .f32 0x00000000#32 : Ideal .f32) = 0 := Ideal.ofBits_zero_f32
  have hsub : FloatOps.subf (F := Ideal) (φ := .f32) (dotAt x wn t e) 0 = dotAt x wn t e := sub_zero _
  rw [val_main_v6_apply, val_main_v5_apply, val_main_v4_apply, val_main_v3_apply, val_main_v2_apply,
    val_main_call0_v4_apply, hcmp, select_zero, val_main_call0_v11_apply, val_main_call0_v10_apply, val_main_call0_v9_apply,
    val_main_call0_v8_apply, val_main_call0_v7_apply, val_main_call0_v3_apply, val_main_call0_v2_apply,
    val_main_call0_v1_apply, val_main_call0_v0_apply, val_main_call0_cst_apply, hd0, hd1, hz, hsub]
  rfl

/-! ## The sort -/

/-- The place sorted to position `j` when the larger element comes first. -/
def order (z : Fin 64 → EReal) (j : Fin 64) : Fin 64 := sortedFrom (fun k k' => decide (z k' < z k)) j

/-- The place sorted to the front. -/
abbrev first (z : Fin 64 → EReal) : Fin 64 := order z 0
/-- The place sorted next. -/
abbrev second (z : Fin 64 → EReal) : Fin 64 := order z 1

/-- The front place is the top place. -/
theorem first_isTop (z : Fin 64 → EReal) : IsTop z (first z) := sorted_isTop z 0 rfl

/-- The one after it is the next place. -/
theorem second_isNext (z : Fin 64 → EReal) : IsNext z (first z) (second z) := sorted_isNext z 0 1 rfl rfl

/-- Moving along axis 1 changes the expert only. -/
theorem along_row (t : Fin 8192) (k k' : Fin 64) :
    (ix2 t k : S8192x64.Idx).along (1 : Fin 2) k' = (ix2 t k' : S8192x64.Idx) :=
  funext fun a => match a with | ⟨0, _⟩ => rfl | ⟨1, _⟩ => rfl

/-- The sort's comparison, as an order of extended reals. -/
theorem cmp_gt (a b : EReal) : (FloatOps.cmpfTotal (F := Ideal) (φ := .f32) .gt a b == 1#1) = decide (b < a) := by
  show (Ideal.cmp .ogt a b == 1#1) = decide (b < a)
  unfold Ideal.cmp
  by_cases h : b < a <;> simp [h]

/-- The row sorted with its places, at position `j`. -/
theorem sort_at (v : FVec Ideal S8192x64 .f32) (t : Fin 8192) (j : Fin 64) {z : Fin 64 → EReal} (hz : ∀ e, v (ix2 t e) = z e) :
    (Host.sort2 S8192x64 1 (fun l r : Ideal .f32 × BitVec 32 => FloatOps.cmpfTotal .gt l.1 r.1) v
        (iotaInDim S8192x64 32 1)).1 (ix2 t j) = z (order z j)
      ∧ (Host.sort2 S8192x64 1 (fun l r : Ideal .f32 × BitVec 32 => FloatOps.cmpfTotal .gt l.1 r.1) v
        (iotaInDim S8192x64 32 1)).2 (ix2 t j) = BitVec.ofNat 32 (order z j).val := by
  have hord : (fun k k' : Fin 64 => FloatOps.cmpfTotal (F := Ideal) (φ := .f32) .gt
      (v ((ix2 t j : S8192x64.Idx).along (1 : Fin 2) k)) (v ((ix2 t j : S8192x64.Idx).along (1 : Fin 2) k')) == 1#1)
      = fun k k' => decide (z k' < z k) := by
    funext k k'
    rw [along_row, along_row, cmp_gt, hz, hz]
  unfold Host.sort2
  rw [dif_pos (by decide)]
  have hk : ∀ k : Fin 64, v ((ix2 t j : S8192x64.Idx).along (1 : Fin 2) k) = z k
      ∧ iotaInDim S8192x64 32 1 ((ix2 t j : S8192x64.Idx).along (1 : Fin 2) k) = BitVec.ofNat 32 k.val := fun k =>
    ⟨(congrArg v (along_row t j k)).trans (hz k), congrArg (iotaInDim S8192x64 32 1) (along_row t j k)⟩
  have hs : ∀ f : Fin 64 → Fin 64 → Bool, f = (fun k k' => decide (z k' < z k)) →
      v ((ix2 t j : S8192x64.Idx).along (1 : Fin 2) (sortedFrom f j)) = z (order z j)
      ∧ iotaInDim S8192x64 32 1 ((ix2 t j : S8192x64.Idx).along (1 : Fin 2) (sortedFrom f j))
        = BitVec.ofNat 32 (order z j).val := by
    rintro f rfl
    exact hk (order z j)
  exact hs _ hord

/-- `top_k` at a row: the elements at the sorted places, and the places. -/
theorem topK_at (v : FVec Ideal S8192x64 .f32) (t : Fin 8192) (j : Fin 3) {z : Fin 64 → EReal} (hz : ∀ e, v (ix2 t e) = z e) :
    (Host.topK S8192x3 1 (FloatOps.cmpfTotal .gt) v sliceFits_S8192x64_S8192x3).1 (ix2 t j)
        = z (order z ⟨j.val, by have := j.isLt; omega⟩)
      ∧ (Host.topK S8192x3 1 (FloatOps.cmpfTotal .gt) v sliceFits_S8192x64_S8192x3).2 (ix2 t j)
        = BitVec.ofNat 32 (order z ⟨j.val, by have := j.isLt; omega⟩).val := by
  have hj : j.val < 64 := by have := j.isLt; omega
  have hs : ∀ {α : Type} (y : S8192x64.Idx → α), extractStridedSlice S8192x3 (fun _ => 0) y sliceFits_S8192x64_S8192x3 (ix2 t j)
      = y (ix2 t ⟨j.val, hj⟩) := fun y =>
    extractStridedSlice_apply _ y _ _ (ix2 t ⟨j.val, hj⟩) fun a => match a with
      | ⟨0, _⟩ => (Nat.zero_add _).symm
      | ⟨1, _⟩ => (Nat.zero_add _).symm
  have h := sort_at v t ⟨j.val, hj⟩ hz
  exact ⟨(hs _).trans h.1, (hs _).trans h.2⟩

/-- Position `j` of the two the reference keeps, among the sorted 64. -/
abbrev kept (j : Fin 2) : Fin 64 := ⟨j.val, by have := j.isLt; omega⟩

/-- The two largest entries that the reference keeps. -/
theorem ref_value (t : Fin 8192) (j : Fin 2) :
    val_main_v7 (F := Ideal) x wg wn ns (ix2 t j) = logit x wg wn ns t (order (logit x wg wn ns t) (kept j)) := by
  rw [val_main_v7_apply]
  have e : idx_main_v7 (ix2 t j) = ix2 t (⟨j.val, by have := j.isLt; omega⟩ : Fin 3) :=
    funext fun a => match a with | ⟨0, _⟩ => rfl | ⟨1, _⟩ => rfl
  rw [e]
  exact (topK_at _ t _ (ref_logit x wg wn ns t)).1

/-- And their places. -/
theorem ref_place (t : Fin 8192) (j : Fin 2) :
    val_main_v8 (F := Ideal) x wg wn ns (ix2 t j) = BitVec.ofNat 32 (order (logit x wg wn ns t) (kept j)).val := by
  rw [val_main_v8_apply]
  have e : idx_main_v8 (ix2 t j) = ix2 t (⟨j.val, by have := j.isLt; omega⟩ : Fin 3) :=
    funext fun a => match a with | ⟨0, _⟩ => rfl | ⟨1, _⟩ => rfl
  rw [e]
  exact (topK_at _ t _ (ref_logit x wg wn ns t)).2

/-! ## The softmax of the two largest -/

/-- The row's maximum, as the reference takes it over the two kept. -/
theorem ref_max (t : Fin 8192) : val_main_v11 (F := Ideal) x wg wn ns (ix1 t)
    = logit x wg wn ns t (first (logit x wg wn ns t)) := by
  have hb : (FloatOps.ofBits .f32 0xFF800000#32 : Ideal .f32) = ⊥ := by simp [Ideal.ofBits, Ideal.ieee]
  have hle : logit x wg wn ns t (second (logit x wg wn ns t)) ≤ logit x wg wn ns t (first (logit x wg wn ns t)) :=
    (first_isTop _ _).1
  have h : S8192x2.Reduces [1] S8192 := by decide
  have hl : ∀ k : Fin 2, h.lift (ix1 t) k = (ix2 t k : S8192x2.Idx) := fun k =>
    funext fun a => match a with | ⟨0, _⟩ => rfl | ⟨1, _⟩ => rfl
  have h9 : val_main_v9 (F := Ideal) x wg wn ns (ix1 t) = logit x wg wn ns t (first (logit x wg wn ns t)) := by
    unfold val_main_v9
    refine (Host.reduce_eq_fold_single (α := EReal) max _ _ reducesTo_S8192x2_S8192_d1 h h_S_ (ix1 t)).trans ?_
    have hf : (val_main_v7 (F := Ideal) x wg wn ns ∘ h.lift (ix1 t) : Fin 2 → EReal)
        = fun k => logit x wg wn ns t (order (logit x wg wn ns t) (kept k)) :=
      funext fun k => (congrArg _ (hl k)).trans (ref_value x wg wn ns t k)
    refine (congrArg (Finset.fold max _ · (Finset.univ : Finset (Fin 2))) hf).trans ?_
    rw [val_main_cst_0_apply, hb, show (Finset.univ : Finset (Fin 2)) = {0, 1} from rfl, Finset.fold_insert (by decide),
      Finset.fold_singleton]
    exact (congrArg (max _) (max_eq_left bot_le)).trans (max_eq_left hle)
  rw [val_main_v11_apply, val_main_v10_apply, val_main_cst_1_apply, hb, h9]
  exact max_eq_right bot_le

/-- The exponentials of the softmax. -/
theorem ref_exp (t : Fin 8192) (j : Fin 2) : val_main_v15 (F := Ideal) x wg wn ns (ix2 t j)
    = Ideal.exp (logit x wg wn ns t (order (logit x wg wn ns t) (kept j))
        - logit x wg wn ns t (first (logit x wg wn ns t))) := by
  have e : idx_main_v12 (idx_main_v13 (ix2 t j)) = ix1 t := funext fun a => match a with | ⟨0, _⟩ => rfl
  rw [val_main_v15_apply, val_main_v14_apply, val_main_v13_apply, val_main_v12_apply, e, ref_max, ref_value]
  rfl

/-- Their sum, the denominator. -/
theorem ref_sum (t : Fin 8192) (j : Fin 2) : val_main_v18 (F := Ideal) x wg wn ns (ix2 t j)
    = val_main_v15 (F := Ideal) x wg wn ns (ix2 t 0) + val_main_v15 (F := Ideal) x wg wn ns (ix2 t 1) := by
  have hz : (FloatOps.ofBits .f32 0x00000000#32 : Ideal .f32) = 0 := Ideal.ofBits_zero_f32
  have e : idx_main_v17 (idx_main_v18 (ix2 t j)) = ix1 t := funext fun a => match a with | ⟨0, _⟩ => rfl
  have e' : ∀ k : Fin 2, idx_main_v16 (ix1 t) k = ix2 t k := fun k =>
    funext fun a => match a with | ⟨0, _⟩ => rfl | ⟨1, _⟩ => rfl
  rw [val_main_v18_apply, val_main_v17_apply, e, val_main_v16_apply, val_main_cst_2_apply, hz, Fin.sum_univ_two, e', e']
  exact zero_add _

end Cert.Proof

end
-- ==== Proof.RefValue.lean ====
module

public import proofs.«01_k».proof.Proof.RefRow
public import Idealize.ShloMosaic.Lib.WordCmp
public import Idealize.ShloMosaic.Lib.Routing.OpsPair
public import Idealize.ShloMosaic.Lib.Routing.OpsSet
public import Idealize.ShloMosaic.Lib.Pipeline.Value

/-!
The reference's result: its two gates per token written into rows of zeros at their places, then transposed.

`gate_top` and `gate_next` are the two softmax values where the logits are real numbers. `lands` says which entry an
update of the scatter reaches. `ref_array` is the whole result.
-/

@[expose] public section

noncomputable section

namespace Cert.Proof

open Idealize.ShloMosaic Idealize.ShloMosaic.ValueIdx Cert.ReferenceIdeal Cert.ReferenceIdeal.Facts₀ Cert.ReferenceIdeal.Read

variable (x : (⟨2, ![8192, 4096]⟩ : Shape).Idx → EReal) (wg wn : (⟨2, ![4096, 64]⟩ : Shape).Idx → EReal)
  (ns : (⟨2, ![8192, 64]⟩ : Shape).Idx → EReal)

/-- A real number less itself has exponential one. -/
theorem exp_self {a : EReal} (ha : Finite a) : Ideal.exp (a - a) = 1 := by
  obtain ⟨r, rfl⟩ := ha
  rw [← EReal.coe_sub, sub_self, Ideal.exp_coe, Real.exp_zero, EReal.coe_one]

section Row

variable {x wg wn ns} {t : Fin 8192} (hfin : ∀ e, Finite (logit x wg wn ns t e))
include hfin

/-- The exponential of the largest entry. -/
theorem exp_top : val_main_v15 (F := Ideal) x wg wn ns (ix2 t 0) = 1 :=
  (ref_exp x wg wn ns t 0).trans (exp_self (hfin _))

/-- The denominator is one plus the exponential of the difference. -/
theorem ref_sum_eq (j : Fin 2) : val_main_v18 (F := Ideal) x wg wn ns (ix2 t j)
    = 1 + Ideal.exp (logit x wg wn ns t (second (logit x wg wn ns t)) - logit x wg wn ns t (first (logit x wg wn ns t))) := by
  rw [ref_sum, exp_top hfin]
  exact congrArg (1 + ·) (ref_exp x wg wn ns t 1)

/-- The softmax value of the largest entry is its gate. -/
theorem gate_top : val_main_v19 (F := Ideal) x wg wn ns (ix2 t 0)
    = gates (logit x wg wn ns t) (first (logit x wg wn ns t)) := by
  rw [gates_eq (first_isTop _) (second_isNext _), val_main_v19_apply, exp_top hfin, ref_sum_eq hfin]
  exact (if_pos rfl).symm

/-- The softmax value of the second largest is its gate. -/
theorem gate_next : val_main_v19 (F := Ideal) x wg wn ns (ix2 t 1)
    = gates (logit x wg wn ns t) (second (logit x wg wn ns t)) := by
  have h := second_isNext (logit x wg wn ns t)
  rw [gates_eq (first_isTop _) h, val_main_v19_apply, ref_exp, ref_sum_eq hfin]
  exact ((if_neg h.1).trans (if_pos rfl)).symm

end Row

/-- Every other gate is zero. -/
theorem gate_other (z : Fin 64 → EReal) {e : Fin 64} (h0 : e ≠ first z) (h1 : e ≠ second z) : gates z e = 0 := by
  rw [gates_eq (first_isTop z) (second_isNext z)]
  exact (if_neg h0).trans (if_neg h1)

/-! ## Where the updates land -/

/-- The row word of update `(t, j)`. -/
theorem row_word (t : Fin 8192) (j : Fin 2) :
    val_main_v36 (F := Ideal) x wg wn ns (ix3 t j 0) = BitVec.ofNat 32 t.val := by
  have ht : t.val < 8192 := t.isLt
  have h27 : ∀ u : Fin 1, val_main_v27 (F := Ideal) (ix2 t u) = BitVec.ofNat 32 t.val := fun u => by
    have e : idx_main_v21 (ix2 t u) = ix1 t := funext fun a => match a with | ⟨0, _⟩ => rfl
    have h21 : val_main_v21 (F := Ideal) (ix2 t u) = BitVec.ofNat 32 t.val := by
      rw [val_main_v21_apply, e, val_main_v20_apply]
    rw [val_main_v27_apply, val_main_v24_apply, val_main_v23_apply, val_main_c_apply, h21]
    exact Routing.wrap_of_lt _ _ (by rw [BitVec.toNat_ofNat]; omega)
  have h34 : val_main_v34 (F := Ideal) (ix3 t j 0) = BitVec.ofNat 32 t.val := by
    rw [val_main_v34_apply, val_main_v33_apply]
    have e : idx_main_v33 (idx_main_v34 (ix3 t j 0)) = ix2 t 0 :=
      funext fun a => match a with | ⟨0, _⟩ => rfl | ⟨1, _⟩ => rfl
    rw [e]
    exact h27 0
  unfold val_main_v36
  refine (concatenate_pair_apply_left (t := S8192x2x2) (s₁ := S8192x2x1) (s₂ := S8192x2x1) 2 _ _ _ _ rfl (ix3 t j 0) ?_).trans h34
  intro b
  match b with
  | ⟨0, _⟩ => rfl
  | ⟨1, _⟩ => rfl
  | ⟨2, _⟩ => rfl

/-- The column word of update `(t, j)`. -/
theorem column_word (t : Fin 8192) (j : Fin 2) :
    val_main_v36 (F := Ideal) x wg wn ns (ix3 t j 1) = BitVec.ofNat 32 (order (logit x wg wn ns t) (kept j)).val := by
  have h35 : val_main_v35 (F := Ideal) x wg wn ns (ix3 t j 0) = BitVec.ofNat 32 (order (logit x wg wn ns t) (kept j)).val := by
    have e : idx_main_v35 (ix3 t j 0) = ix2 t j := funext fun a => match a with | ⟨0, _⟩ => rfl | ⟨1, _⟩ => rfl
    have hp := (order (logit x wg wn ns t) (kept j)).isLt
    rw [val_main_v35_apply, e, val_main_v32_apply, val_main_v29_apply, val_main_v28_apply, val_main_c_5_apply, ref_place]
    exact Routing.wrap_of_lt _ _ (by rw [BitVec.toNat_ofNat]; omega)
  unfold val_main_v36
  refine (concatenate_pair_apply_right (t := S8192x2x2) (s₁ := S8192x2x1) (s₂ := S8192x2x1) 2 _ _ _ _ rfl rfl (ix3 t j 0) ?_ ?_).trans h35
  · intro b hb
    match b with
    | ⟨0, _⟩ => rfl
    | ⟨1, _⟩ => rfl
    | ⟨2, _⟩ => exact absurd rfl hb
  · rfl

/-- Update `(a, j)` lands at `(t, e)` exactly when its row is `t` and its row's place `j` is `e`. -/
theorem lands (a t : Fin 8192) (j : Fin 2) (e : Fin 64) :
    scatter_S8192x64_S8192x2x2_S8192x2_n_01_01_2.resultIdx? (ix2 a j) (val_main_v36 (F := Ideal) x wg wn ns) = some (ix2 t e)
      ↔ a = t ∧ order (logit x wg wn ns a) (kept j) = e := by
  have ha : a.val < 8192 := a.isLt
  have ho := (order (logit x wg wn ns a) (kept j)).isLt
  refine (Routing.scatter_lands2 (R := 8192) (C := 64) (A := 8192) (B := 2) _ rfl rfl rfl _ a j t e).trans ?_
  rw [row_word, column_word, WordCmp.toInt_ofNat_of_lt (by omega), WordCmp.toInt_ofNat_of_lt (by omega), Fin.ext_iff, Fin.ext_iff,
    Int.ofNat_inj, Int.ofNat_inj]

/-- An update that lands at `(t, e)` is row `t`'s first, at its first place, or its second, at its second. -/
theorem landed {k : S8192x2.Idx} {t : Fin 8192} {e : Fin 64}
    (hk : scatter_S8192x64_S8192x2x2_S8192x2_n_01_01_2.resultIdx? k (val_main_v36 (F := Ideal) x wg wn ns) = some (ix2 t e)) :
    (k = ix2 t 0 ∧ first (logit x wg wn ns t) = e) ∨ (k = ix2 t 1 ∧ second (logit x wg wn ns t) = e) := by
  obtain ⟨a, j, rfl⟩ : ∃ (a : Fin 8192) (j : Fin 2), k = ix2 a j := ⟨k 0, k 1, eq_ix2 k⟩
  have h := (lands x wg wn ns a t j e).1 hk
  clear hk
  obtain ⟨rfl, h⟩ := h
  have hj : j = 0 ∨ j = 1 := by omega
  rcases hj with rfl | rfl
  · exact Or.inl ⟨rfl, h⟩
  · exact Or.inr ⟨rfl, h⟩

/-- The reference's result before it is turned over: a row's two updates land at its two places, zero everywhere else. -/
theorem ref_rows (hfin : ∀ t e, Finite (logit x wg wn ns t e)) (t : Fin 8192) (e : Fin 64) :
    val_main_v37 (F := Ideal) x wg wn ns (ix2 t e) = gates (logit x wg wn ns t) e := by
  have hne : second (logit x wg wn ns t) ≠ first (logit x wg wn ns t) := (second_isNext _).1
  have htop := gate_top (x := x) (wg := wg) (wn := wn) (ns := ns) (hfin t)
  have hnext := gate_next (x := x) (wg := wg) (wn := wn) (ns := ns) (hfin t)
  have l0 := (lands x wg wn ns t t 0 (first (logit x wg wn ns t))).2 ⟨rfl, rfl⟩
  have l1 := (lands x wg wn ns t t 1 (second (logit x wg wn ns t))).2 ⟨rfl, rfl⟩
  unfold val_main_v37
  by_cases h0 : e = first (logit x wg wn ns t)
  · rw [h0, ← htop]
    refine Routing.scatter_set_hit _ _ _ _ _ _ (fun k hk => ?_) (ix2 t 0) l0
    rcases landed x wg wn ns hk with ⟨rfl, -⟩ | ⟨-, hs⟩
    · rfl
    · exact absurd hs hne
  · by_cases h1 : e = second (logit x wg wn ns t)
    · rw [h1, ← hnext]
      refine Routing.scatter_set_hit _ _ _ _ _ _ (fun k hk => ?_) (ix2 t 1) l1
      rcases landed x wg wn ns hk with ⟨-, hf⟩ | ⟨rfl, -⟩
      · exact absurd hf.symm hne
      · rfl
    · rw [gate_other _ h0 h1]
      refine (Routing.scatter_set_miss _ _ _ _ _ fun k hk => ?_).trans ?_
      · rcases landed x wg wn ns hk with ⟨-, hf⟩ | ⟨-, hs⟩
        · exact h0 hf.symm
        · exact h1 hs.symm
      · rw [val_main_v22_apply, val_main_cst_3_apply]
        exact Ideal.ofBits_zero_f32

/-- The reference's result. -/
theorem ref_array (hfin : ∀ t e, Finite (logit x wg wn ns t e)) :
    val_main_v38 (F := Ideal) x wg wn ns = gateArray x wg wn ns := by
  have h : ∀ i : S64x8192.Idx, val_main_v38 (F := Ideal) x wg wn ns i = gateArray x wg wn ns i := by
    intro i
    obtain ⟨e, t, rfl⟩ : ∃ (e : Fin 64) (t : Fin 8192), i = ix2 e t := ⟨i 0, i 1, eq_ix2 i⟩
    have hi : idx_main_v38 (ix2 e t) = ix2 t e := funext fun a => match a with | ⟨0, _⟩ => rfl | ⟨1, _⟩ => rfl
    rw [val_main_v38_apply, hi, ref_rows x wg wn ns hfin]
    rfl
  exact funext h

end Cert.Proof

end
-- ==== Proof.Pre.lean ====
module

public import proofs.«01_k».proof.Defs
public import proofs.«01_k».proof.Proof.KernelArray
public import proofs.«01_k».proof.Proof.Gen.Pre_finite_args

/-!
What the precondition says: every element of the four arguments is a real number. So every logit is one.
-/

@[expose] public section

noncomputable section

namespace Cert.Proof

open Idealize.ShloMosaic Idealize.ShloMosaic.ValueIdx Idealize.ShloMosaic.TcCoe Cert.KernelIdeal

/-- An extended real whose absolute value is below `0x7F800000`, the infinity, is a real number. -/
theorem finite_of_abs_lt {a : EReal} (h : Ideal.cmp .olt (max a (-a)) (Ideal.ofBits .f32 0x7F800000#32) = 1#1) : Finite a := by
  have hi : Ideal.ofBits .f32 0x7F800000#32 = ⊤ := by simp [Ideal.ofBits, Ideal.ieee]
  rw [hi] at h
  have hlt : max a (-a) < ⊤ := by
    by_contra hn
    unfold Ideal.cmp at h
    simp [hn] at h
  induction a with
  | bot => simp at hlt
  | top => simp at hlt
  | coe r => exact ⟨r, rfl⟩

/-- The arguments hold real numbers. -/
theorem pre_finite {m : (ℓ : Loc nD τ sig) → Buf (Elt Ideal) ℓ} (h : Pre_KernelIdeal_finite_args m) (c : Dev nD) :
    (∀ i, Finite (argX m c i)) ∧ (∀ i, Finite (argG m c i)) ∧ (∀ i, Finite (argN m c i)) ∧ ∀ i, Finite (argS m c i) := by
  obtain ⟨h0, h1, h2, h3⟩ := h c
  exact ⟨fun i => finite_of_abs_lt (congrFun h0 i), fun i => finite_of_abs_lt (congrFun h1 i),
    fun i => finite_of_abs_lt (congrFun h2 i), fun i => finite_of_abs_lt (congrFun h3 i)⟩

/-- The noisy logits are real numbers. -/
theorem pre_logit {m : (ℓ : Loc nD τ sig) → Buf (Elt Ideal) ℓ} (h : Pre_KernelIdeal_finite_args m) (c : Dev nD)
    (t : Fin 8192) (e : Fin 64) : Finite (logit (argX m c) (argG m c) (argN m c) (argS m c) t e) := by
  obtain ⟨h0, h1, h2, h3⟩ := pre_finite h c
  exact finite_logit h0 h1 h2 h3 t e

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_args
public import proofs.«01_k».proof.Proof.Gen.KernelIdeal.Value
public import proofs.«01_k».proof.Proof.Gen.ReferenceIdeal.Read
public import proofs.«01_k».proof.Proof.KernelArray
public import proofs.«01_k».proof.Proof.RefValue
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_finite_args.Facts := Cert.Pre_finite_args.Gen.facts

/-- The reference runs, keeps its arguments, and has no semaphore to leave raised. -/
theorem reference_frame : Cert.quiescent_ReferenceIdeal := fun m ρ _ =>
  (θ_run _ _ _).mono (fun r h => ⟨fun c => (h c).2, sem_eq_zero_of_no_sems rfl r.2⟩) (Cert.ReferenceIdeal.Value.run m ρ)

/-- On real arguments both programs end with the array of gates. -/
theorem same_gates : Cert.algebraic_KernelIdeal_ReferenceIdeal_pre_finite_args := by
  intro m g m' g' hpre hargs
  have hfin := pre_logit hpre
  refine ⟨fun c => gateArray (argX m c) (argG m c) (argN m c) (argS m c), ?_, ?_⟩
  · exact (θ_run _ _ _).mono (fun r h c => ⟨(h c).1.trans (array_eq m c fun t e => (hfin c t e).ne_bot), (h c).2⟩)
      (Cert.KernelIdeal.Value.run_blocks m g)
  · have hr : ∀ c, Cert.ReferenceIdeal.Value.res_main_v38 m' c = gateArray (argX m c) (argG m c) (argN m c) (argS m c) := by
      intro c
      obtain ⟨h0, h1, h2, h3⟩ := hargs c
      rw [Cert.ReferenceIdeal.Read.val_main_v38_eq, h0, h1, h2, h3]
      exact ref_array _ _ _ _ (hfin c)
    exact (θ_run _ _ _).mono (fun r h c => ⟨(h c).1.trans (hr c), (h c).2⟩) (Cert.ReferenceIdeal.Value.run m' g')

theorem claim : Cert.Claim :=
  ⟨Cert.Kernel.Gen.facts, Cert.KernelIdeal.Gen.facts, Cert.ReferenceIdeal.Gen.facts, Cert.Pre_finite_args.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    same_gates⟩

end Cert.Proof

end
